-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x6144 : Shape := ⟨3, ![1, 256, 6144]⟩
abbrev S1x6144 : Shape := ⟨2, ![1, 6144]⟩
abbrev S6144x6144 : Shape := ⟨2, ![6144, 6144]⟩
abbrev S1x64x64 : Shape := ⟨3, ![1, 64, 64]⟩
abbrev S1x128x6144 : Shape := ⟨3, ![1, 128, 6144]⟩
abbrev S1x2x6144 : Shape := ⟨3, ![1, 2, 6144]⟩
abbrev S6144x512 : Shape := ⟨2, ![6144, 512]⟩
abbrev S1x128x512 : Shape := ⟨3, ![1, 128, 512]⟩
abbrev S1x2x512 : Shape := ⟨3, ![1, 2, 512]⟩
abbrev S256x6144 : Shape := ⟨2, ![256, 6144]⟩
abbrev S3x128x256 : Shape := ⟨3, ![3, 128, 256]⟩
abbrev S64x64 : Shape := ⟨2, ![64, 64]⟩
abbrev S64x256 : Shape := ⟨2, ![64, 256]⟩
abbrev S128x256 : Shape := ⟨2, ![128, 256]⟩
abbrev S1x128x256 : Shape := ⟨3, ![1, 128, 256]⟩
abbrev S256x512 : Shape := ⟨2, ![256, 512]⟩
abbrev S64x512 : Shape := ⟨2, ![64, 512]⟩
abbrev S128x512 : Shape := ⟨2, ![128, 512]⟩
abbrev S512 : Shape := ⟨1, ![512]⟩
abbrev S1x512 : Shape := ⟨2, ![1, 512]⟩
abbrev S32x512 : Shape := ⟨2, ![32, 512]⟩
abbrev S2x512 : Shape := ⟨2, ![2, 512]⟩

abbrev nBuf : Space → Nat
  | .hbm => 6
  | .vmem => 11
  | .smem => 0
  | _ => 0

abbrev bufTy : (tb : Table) → Fin (tcTables nBuf tb) → BufTy
  | .hbm, ⟨0, _⟩ => ⟨S1x256x6144, .i8⟩
  | .hbm, ⟨1, _⟩ => ⟨S1x6144, .f32⟩
  | .hbm, ⟨2, _⟩ => ⟨S6144x6144, .bf16⟩
  | .hbm, ⟨3, _⟩ => ⟨S1x64x64, .bf16⟩
  | .hbm, ⟨4, _⟩ => ⟨S1x128x6144, .i8⟩
  | .hbm, ⟨5, _⟩ => ⟨S1x2x6144, .bf16⟩
  | .local _ .vmem, ⟨0, _⟩ => ⟨S1x256x6144, .i8⟩
  | .local _ .vmem, ⟨1, _⟩ => ⟨S1x6144, .f32⟩
  | .local _ .vmem, ⟨2, _⟩ => ⟨S6144x512, .bf16⟩
  | .local _ .vmem, ⟨3, _⟩ => ⟨S6144x512, .bf16⟩
  | .local _ .vmem, ⟨4, _⟩ => ⟨S1x64x64, .bf16⟩
  | .local _ .vmem, ⟨5, _⟩ => ⟨S1x128x512, .i8⟩
  | .local _ .vmem, ⟨6, _⟩ => ⟨S1x128x512, .i8⟩
  | .local _ .vmem, ⟨7, _⟩ => ⟨S1x2x512, .bf16⟩
  | .local _ .vmem, ⟨8, _⟩ => ⟨S1x2x512, .bf16⟩
  | .local _ .vmem, ⟨9, _⟩ => ⟨S256x6144, .bf16⟩
  | .local _ .vmem, ⟨10, _⟩ => ⟨S3x128x256, .bf16⟩
  | _, _ => ⟨S1x256x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x256x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x6144 : Shape := ⟨3, ![1, 256, 6144]⟩
abbrev S1x6144 : Shape := ⟨2, ![1, 6144]⟩
abbrev S6144x6144 : Shape := ⟨2, ![6144, 6144]⟩
abbrev S1x64x64 : Shape := ⟨3, ![1, 64, 64]⟩
abbrev S1x1x6144 : Shape := ⟨3, ![1, 1, 6144]⟩
abbrev S1x4x64x6144 : Shape := ⟨4, ![1, 4, 64, 6144]⟩
abbrev S1x4x6144x64 : Shape := ⟨4, ![1, 4, 6144, 64]⟩
abbrev S1x2x128x6144 : Shape := ⟨4, ![1, 2, 128, 6144]⟩
abbrev S_ : Shape := ⟨0, ![]⟩
abbrev S1x2x6144 : Shape := ⟨3, ![1, 2, 6144]⟩
abbrev S1x2x1x6144 : Shape := ⟨4, ![1, 2, 1, 6144]⟩
abbrev S1x128x6144 : Shape := ⟨3, ![1, 128, 6144]⟩

abbrev nBuf : Space → Nat
  | .hbm => 61
  | .vmem => 0
  | .smem => 0
  | _ => 0

abbrev bufTy : (tb : Table) → Fin (tcTables nBuf tb) → BufTy
  | .hbm, ⟨0, _⟩ => ⟨S1x256x6144, .i8⟩
  | .hbm, ⟨1, _⟩ => ⟨S1x6144, .f32⟩
  | .hbm, ⟨2, _⟩ => ⟨S6144x6144, .bf16⟩
  | .hbm, ⟨3, _⟩ => ⟨S1x64x64, .bf16⟩
  | .hbm, ⟨4, _⟩ => ⟨S1x256x6144, .i32⟩
  | .hbm, ⟨5, _⟩ => ⟨S1x256x6144, .bf16⟩
  | .hbm, ⟨6, _⟩ => ⟨S1x6144, .bf16⟩
  | .hbm, ⟨7, _⟩ => ⟨S1x1x6144, .bf16⟩
  | .hbm, ⟨8, _⟩ => ⟨S1x256x6144, .bf16⟩
  | .hbm, ⟨9, _⟩ => ⟨S1x256x6144, .bf16⟩
  | .hbm, ⟨10, _⟩ => ⟨S1x256x6144, .f32⟩
  | .hbm, ⟨11, _⟩ => ⟨S1x4x64x6144, .f32⟩
  | .hbm, ⟨12, _⟩ => ⟨S1x64x64, .f32⟩
  | .hbm, ⟨13, _⟩ => ⟨S1x4x6144x64, .f32⟩
  | .hbm, ⟨14, _⟩ => ⟨S1x4x64x6144, .f32⟩
  | .hbm, ⟨15, _⟩ => ⟨S1x256x6144, .f32⟩
  | .hbm, ⟨16, _⟩ => ⟨S1x2x128x6144, .f32⟩
  | .hbm, ⟨17, _⟩ => ⟨S1x2x128x6144, .f32⟩
  | .hbm, ⟨18, _⟩ => ⟨S_, .f32⟩
  | .hbm, ⟨19, _⟩ => ⟨S1x2x6144, .f32⟩
  | .hbm, ⟨20, _⟩ => ⟨S_, .f32⟩
  | .hbm, ⟨21, _⟩ => ⟨S1x2x6144, .f32⟩
  | .hbm, ⟨22, _⟩ => ⟨S1x2x6144, .i1⟩
  | .hbm, ⟨23, _⟩ => ⟨S_, .f32⟩
  | .hbm, ⟨24, _⟩ => ⟨S1x2x6144, .f32⟩
  | .hbm, ⟨25, _⟩ => ⟨S1x2x6144, .f32⟩
  | .hbm, ⟨26, _⟩ => ⟨S_, .f32⟩
  | .hbm, ⟨27, _⟩ => ⟨S1x2x6144, .f32⟩
  | .hbm, ⟨28, _⟩ => ⟨S1x2x6144, .f32⟩
  | .hbm, ⟨29, _⟩ => ⟨S1x2x6144, .bf16⟩
  | .hbm, ⟨30, _⟩ => ⟨S1x2x6144, .f32⟩
  | .hbm, ⟨31, _⟩ => ⟨S1x2x1x6144, .f32⟩
  | .hbm, ⟨32, _⟩ => ⟨S1x2x128x6144, .f32⟩
  | .hbm, ⟨33, _⟩ => ⟨S1x2x128x6144, .f32⟩
  | .hbm, ⟨34, _⟩ => ⟨S1x2x128x6144, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x2x128x6144, .f32⟩
  | .hbm, ⟨39, _⟩ => ⟨S1x2x128x6144, .f32⟩
  | .hbm, ⟨40, _⟩ => ⟨S_, .f32⟩
  | .hbm, ⟨41, _⟩ => ⟨S1x2x128x6144, .f32⟩
  | .hbm, ⟨42, _⟩ => ⟨S1x2x128x6144, .f32⟩
  | .hbm, ⟨43, _⟩ => ⟨S1x2x128x6144, .i32⟩
  | .hbm, ⟨44, _⟩ => ⟨S1x2x128x6144, .i8⟩
  | .hbm, ⟨45, _⟩ => ⟨S1x256x6144, .i8⟩
  | .hbm, ⟨46, _⟩ => ⟨S1x128x6144, .i8⟩
  | .hbm, ⟨47, _⟩ => ⟨S1x128x6144, .i32⟩
  | .hbm, ⟨48, _⟩ => ⟨S_, .i32⟩
  | .hbm, ⟨49, _⟩ => ⟨S1x128x6144, .i32⟩
  | .hbm, ⟨50, _⟩ => ⟨S1x128x6144, .i32⟩
  | .hbm, ⟨51, _⟩ => ⟨S1x128x6144, .i8⟩
  | .hbm, ⟨52, _⟩ => ⟨S1x128x6144, .i32⟩
  | .hbm, ⟨53, _⟩ => ⟨S_, .i32⟩
  | .hbm, ⟨54, _⟩ => ⟨S1x128x6144, .i32⟩
  | .hbm, ⟨55, _⟩ => ⟨S1x128x6144, .i32⟩
  | .hbm, ⟨56, _⟩ => ⟨S_, .i32⟩
  | .hbm, ⟨57, _⟩ => ⟨S1x128x6144, .i32⟩
  | .hbm, ⟨58, _⟩ => ⟨S1x128x6144, .i32⟩
  | .hbm, ⟨59, _⟩ => ⟨S1x128x6144, .i32⟩
  | .hbm, ⟨60, _⟩ => ⟨S1x128x6144, .i8⟩
  | _, _ => ⟨S1x256x6144, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.State.lean ====
/- What one point of the kernel's grid leaves in its two outputs and in the two arrays the kernel
   keeps between points, as closed terms over the point's input blocks.

   The kernel fills the kept arrays at the first point only: the dequantised weight `wbOf` and the three
   stacked rotation matrices `rotOf`.  Every point then computes its two output blocks, `codesOf` and
   `scalesOf`, from those and its own block of the first rotation. -/
module

public import proofs.«01_k».proof.Proof.Gen.KernelIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.KernelIdeal.State

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ## The vocabulary -/

/-- The dequantised weight: codes times the row of scales. -/
def wbOf (x0 : Vec F S1x256x6144 .i8) (x1 : Vec F S1x6144 .f32) : Vec F S256x6144 .bf16 :=
  k0_pay3 x0 x1

/-- The three stacked matrices the second rotation multiplies by, as the kernel stores them. -/
def rotOf (x3 : Vec F S1x64x64 .bf16) : Vec F S3x128x256 .bf16 :=
  View.canon [⟨Rect.unit ![2, 0, 0] ![1, 128, 256] inb_S3x128x256_S1x128x256_2_0_0, k0_pay9 (k0_pay4 x3) k0_pay5⟩,
    ⟨Rect.unit ![1, 0, 0] ![1, 128, 256] inb_S3x128x256_S1x128x256_1_0_0, k0_pay8 (k0_pay4 x3) k0_pay5⟩,
    ⟨Rect.unit ![0, 0, 0] ![1, 128, 256] inb_S3x128x256_S1x128x256_0_0_0, k0_pay7 (k0_pay6 x3)⟩]

/-- Stacked matrix 0, as loaded. -/
def rot0 (L : Vec F S3x128x256 .bf16) : Vec F S1x128x256 .bf16 :=
  View.ld L (Rect.unit ![0, 0, 0] ![1, 128, 256] inb_S3x128x256_S1x128x256_0_0_0)
/-- Stacked matrix 1, as loaded. -/
def rot1 (L : Vec F S3x128x256 .bf16) : Vec F S1x128x256 .bf16 :=
  View.ld L (Rect.unit ![1, 0, 0] ![1, 128, 256] inb_S3x128x256_S1x128x256_1_0_0)
/-- Stacked matrix 2, as loaded. -/
def rot2 (L : Vec F S3x128x256 .bf16) : Vec F S1x128x256 .bf16 :=
  View.ld L (Rect.unit ![2, 0, 0] ![1, 128, 256] inb_S3x128x256_S1x128x256_2_0_0)

section
variable (wb : Vec F S256x6144 .bf16) (L : Vec F S3x128x256 .bf16) (x2 : Vec F S6144x512 .bf16)

/-- The first of the three products of the second rotation. -/
def prodA : FVec F S128x512 .f32 := k0_pay23 wb x2 (rot0 L)
/-- Head 2 after both rotations (its rows permuted). -/
def head2 : FVec F S64x512 .f32 :=
  k0_pay29 (k0_pay17 wb x2) (k0_pay19 wb x2) (k0_pay21 wb x2) (k0_pay22 wb x2) (k0_pay24 wb x2) (rot1 L) (rot2 L)
/-- Head 3 after both rotations (its rows permuted). -/
def head3 : FVec F S64x512 .f32 :=
  k0_pay30 (k0_pay17 wb x2) (k0_pay19 wb x2) (k0_pay21 wb x2) (k0_pay22 wb x2) (rot2 L)

/-- The block of packed codes a point stores. -/
def codesOf : Vec F S1x128x512 .i8 :=
  k0_pay1 (head3 wb L x2)
    (k0_pay35 (k0_pay33 (prodA wb L x2) (k0_pay24 wb x2) (rot1 L)) (k0_pay34 (prodA wb L x2) (k0_pay24 wb x2) (rot1 L)))
    (k0_pay37 (head2 wb L x2) (head3 wb L x2)) (k0_pay39 (head2 wb L x2) (head3 wb L x2))
    (k0_pay40 (head2 wb L x2) (head3 wb L x2))
/-- The block of group scales a point stores. -/
def scalesOf : Vec F S1x2x512 .bf16 :=
  k0_pay2 (k0_pay31 (prodA wb L x2) (k0_pay24 wb x2) (rot1 L)) (k0_pay36 (head2 wb L x2) (head3 wb L x2))
end

/-! ## The first point -/

/-- A load from an array just written by a list of stores reads what those stores leave. -/
theorem readCov_ld {sig : RefSig} {κ : Kind} {sp : Space} {s : Shape} {e : EltTy} (v : View sig κ sp s e)
    (P : List (View.Piece (Elt F) s e)) (r : Rect s) : v.readCov P r.toLoadRect = View.ld (View.canon P) r :=
  View.readCov_eq_canon' v P _

/-- The first point leaves the dequantised weight in the first kept array. -/
theorem kept0_A (c : Dev nD) (t : Fin cfg0.N) (h0 : t.val % 12 = 0) :
    (outsAt0 m c t.val t.isLt).2.2.1 = wbOf (iblk m c 0 t) (iblk m c 1 t) := by
  rw [outsAt0_A m c t h0]
  frame_out
  rfl

/-- The first point leaves the stacked rotation matrices in the second kept array. -/
theorem kept1_A (c : Dev nD) (t : Fin cfg0.N) (h0 : t.val % 12 = 0) :
    (outsAt0 m c t.val t.isLt).2.2.2 = rotOf (iblk m c 3 t) := by
  rw [outsAt0_A m c t h0]
  frame_out

/-- The codes the first point stores. -/
theorem codes_A (c : Dev nD) (t : Fin cfg0.N) (h0 : t.val % 12 = 0) :
    (outsAt0 m c t.val t.isLt).1
      = codesOf (wbOf (iblk m c 0 t) (iblk m c 1 t)) (rotOf (iblk m c 3 t)) (iblk m c 2 t) := by
  rw [outsAt0_A m c t h0]
  frame_out
  simp only [readCov_ld]
  unfold codesOf prodA head2 head3 rot0 rot1 rot2
  rfl

/-- The scales the first point stores. -/
theorem scales_A (c : Dev nD) (t : Fin cfg0.N) (h0 : t.val % 12 = 0) :
    (outsAt0 m c t.val t.isLt).2.1
      = scalesOf (wbOf (iblk m c 0 t) (iblk m c 1 t)) (rotOf (iblk m c 3 t)) (iblk m c 2 t) := by
  rw [outsAt0_A m c t h0]
  frame_out
  simp only [readCov_ld]
  unfold scalesOf prodA head2 head3 rot0 rot1 rot2
  rfl

/-! ## A later point -/

/-- A later point leaves both kept arrays as the point before left them. -/
theorem kept_B (c : Dev nD) (t : Fin cfg0.N) (h0 : ¬ t.val % 12 = 0) :
    (outsAt0 m c t.val t.isLt).2.2 = (outsAt0 m c (t.val - 1) (Nat.lt_of_le_of_lt (Nat.sub_le _ _) t.isLt)).2.2 := by
  rw [outsAt0_B m c t h0]
  rfl

/-- The codes a later point stores, over the kept arrays. -/
theorem codes_B (c : Dev nD) (t : Fin cfg0.N) (h0 : ¬ t.val % 12 = 0) :
    (outsAt0 m c t.val t.isLt).1
      = codesOf (outsAt0 m c (t.val - 1) (Nat.lt_of_le_of_lt (Nat.sub_le _ _) t.isLt)).2.2.1
          (outsAt0 m c (t.val - 1) (Nat.lt_of_le_of_lt (Nat.sub_le _ _) t.isLt)).2.2.2 (iblk m c 2 t) := by
  rw [outsAt0_B m c t h0]
  frame_out
  simp only [read_unread_whole]
  unfold codesOf prodA head2 head3 rot0 rot1 rot2
  rfl

/-- The scales a later point stores, over the kept arrays. -/
theorem scales_B (c : Dev nD) (t : Fin cfg0.N) (h0 : ¬ t.val % 12 = 0) :
    (outsAt0 m c t.val t.isLt).2.1
      = scalesOf (outsAt0 m c (t.val - 1) (Nat.lt_of_le_of_lt (Nat.sub_le _ _) t.isLt)).2.2.1
          (outsAt0 m c (t.val - 1) (Nat.lt_of_le_of_lt (Nat.sub_le _ _) t.isLt)).2.2.2 (iblk m c 2 t) := by
  rw [outsAt0_B m c t h0]
  frame_out
  simp only [read_unread_whole]
  unfold scalesOf prodA head2 head3 rot0 rot1 rot2
  rfl

/-! ## Every point -/

/-- The grid has twelve points. -/
theorem points : cfg0.N = 12 := by decide +kernel

/-- The first point of the grid. -/
abbrev first : Fin cfg0.N := ⟨0, by rw [points]; decide⟩

/-- After any point the kept arrays hold what the first point put there. -/
theorem kept (c : Dev nD) (n : ℕ) (hn : n < cfg0.N) : (outsAt0 m c n hn).2.2
    = (wbOf (iblk m c 0 first) (iblk m c 1 first), rotOf (iblk m c 3 first)) := by
  induction n with
  | zero =>
    rw [← kept0_A m c first (Nat.zero_mod _), ← kept1_A m c first (Nat.zero_mod _)]
  | succ n ih =>
    have h12 := points
    exact (kept_B m c ⟨n + 1, hn⟩ (by dsimp only; omega)).trans (ih (by omega))

/-- The codes stored at any point. -/
theorem codes (c : Dev nD) (t : Fin cfg0.N) : (outsAt0 m c t.val t.isLt).1
    = codesOf (wbOf (iblk m c 0 first) (iblk m c 1 first)) (rotOf (iblk m c 3 first)) (iblk m c 2 t) := by
  have h12 := points
  by_cases h : t.val % 12 = 0
  · have ht : t = first := Fin.ext (by have := t.isLt; show t.val = 0; omega)
    subst ht
    exact codes_A m c first rfl
  · rw [codes_B m c t h, kept]

/-- The scales stored at any point. -/
theorem scales (c : Dev nD) (t : Fin cfg0.N) : (outsAt0 m c t.val t.isLt).2.1
    = scalesOf (wbOf (iblk m c 0 first) (iblk m c 1 first)) (rotOf (iblk m c 3 first)) (iblk m c 2 t) := by
  have h12 := points
  by_cases h : t.val % 12 = 0
  · have ht : t = first := Fin.ext (by have := t.isLt; show t.val = 0; omega)
    subst ht
    exact scales_A m c first rfl
  · rw [scales_B m c t h, kept]

end Cert.KernelIdeal.State
-- ==== Proof.Array.lean ====
/- What the kernel's two result arrays hold at an index, over the arguments' arrays. -/
module

public import proofs.«01_k».proof.Proof.State

@[expose] public section

set_option maxRecDepth 16384

noncomputable section

namespace Cert.KernelIdeal.Arr

open Cert.KernelIdeal Cert.KernelIdeal.Gen Cert.KernelIdeal.State
open Idealize.ShloMosaic Idealize.ShloMosaic.TcCoe Idealize.SL.Sem

variable {F : FTy → Type} [FloatOps F]
variable (m : (ℓ : Loc nD τ sig) → Buf (Elt F) ℓ)

/-- The block of every input at every point: all of it, but for the first rotation, of which point `t` reads
    column block `t`. -/
theorem idx : ∀ t : Fin cfg0.N, win0_0.index t = ![0, 0, 0] ∧ win0_1.index t = ![0, 0]
    ∧ win0_2.index t = ![0, t.val] ∧ win0_3.index t = ![0, 0, 0] :=
  (by decide +kernel : ∀ t : Fin grid0.N, _)

/-- The codes a point reads are the whole argument. -/
theorem iblk0 (c : Dev nD) (t : Fin cfg0.N) : iblk m c 0 t = m ((c : Thread nD τ).loc main_arg0) := by
  blk_ext! [iblk, V, idx t]

/-- The scales a point reads are the whole argument. -/
theorem iblk1 (c : Dev nD) (t : Fin cfg0.N) : iblk m c 1 t = m ((c : Thread nD τ).loc main_arg1) := by
  blk_ext! [iblk, V, idx t]

/-- The second rotation a point reads is the whole argument. -/
theorem iblk3 (c : Dev nD) (t : Fin cfg0.N) : iblk m c 3 t = m ((c : Thread nD τ).loc main_arg3) := by
  blk_ext! [iblk, V, idx t]

/-- Point `t` reads columns `512 t ..< 512 (t + 1)` of the first rotation. -/
theorem iblk2 (c : Dev nD) (t : Fin cfg0.N) (k : Fin 6144) (l : Fin 512) (o : Fin 6144) (ho : o.val = 512 * t.val + l.val) :
    (iblk m c 2 t : Vec F S6144x512 .bf16) (ix2 k l)
      = (m ((c : Thread nD τ).loc main_arg2) : Vec F S6144x6144 .bf16) (ix2 k o) := by
  blk_ext! [iblk, V, idx t]

/-- The codes array at an index: block `t`, place `l` in it. -/
theorem G4_at (c : Dev nD) (t : Fin cfg0.N) (p : Fin 128) (l : Fin 512) (o : Fin 6144) (ho : o.val = 512 * t.val + l.val) :
    (Value.G4 m c : Vec F S1x128x6144 .i8) (ix3 0 p o)
      = codesOf (wbOf (m ((c : Thread nD τ).loc main_arg0)) (m ((c : Thread nD τ).loc main_arg1)))
          (rotOf (m ((c : Thread nD τ).loc main_arg3))) (iblk m c 2 t) (ix3 0 p l) := by
  have hp : Value.pt4Of (ix3 0 p o) = t.val := by
    show 12 * (0 / 1 - 0) + 12 * (p.val / 128 - 0) + 1 * (o.val / 512 - 0) = t.val
    omega
  have hl : Value.loc4Of (ix3 0 p o) = ix3 0 p l := by
    funext a
    match a with
    | ⟨0, _⟩ => rfl
    | ⟨1, _⟩ => exact Fin.ext (show p.val % 128 = p.val by omega)
    | ⟨2, _⟩ => exact Fin.ext (show o.val % 512 = l.val by omega)
  rw [← iblk0 m c first, ← iblk1 m c first, ← iblk3 m c first, ← codes m c t, Value.outsAt0_sweep m c t.val t.isLt, ← hl]
  unfold Value.G4
  simp only [hp]
  rw [dif_pos t.isLt]

/-- The scales array at an index: block `t`, place `l` in it. -/
theorem G5_at (c : Dev nD) (t : Fin cfg0.N) (g : Fin 2) (l : Fin 512) (o : Fin 6144) (ho : o.val = 512 * t.val + l.val) :
    (Value.G5 m c : Vec F S1x2x6144 .bf16) (ix3 0 g o)
      = scalesOf (wbOf (m ((c : Thread nD τ).loc main_arg0)) (m ((c : Thread nD τ).loc main_arg1)))
          (rotOf (m ((c : Thread nD τ).loc main_arg3))) (iblk m c 2 t) (ix3 0 g l) := by
  have hp : Value.pt5Of (ix3 0 g o) = t.val := by
    show 12 * (0 / 1 - 0) + 12 * (g.val / 2 - 0) + 1 * (o.val / 512 - 0) = t.val
    omega
  have hl : Value.loc5Of (ix3 0 g o) = ix3 0 g l := by
    funext a
    match a with
    | ⟨0, _⟩ => rfl
    | ⟨1, _⟩ => exact Fin.ext (show g.val % 2 = g.val by omega)
    | ⟨2, _⟩ => exact Fin.ext (show o.val % 512 = l.val by omega)
  rw [← iblk0 m c first, ← iblk1 m c first, ← iblk3 m c first, ← scales m c t, Value.outsAt0_sweep m c t.val t.isLt, ← hl]
  unfold Value.G5
  simp only [hp]
  rw [dif_pos t.isLt]

end Cert.KernelIdeal.Arr
-- ==== Proof.Arith.lean ====
/- The arithmetic on extended reals behind the kernel's rotation and quantisation.

   The kernel multiplies by a value split in three parts, `x`, `x - x` and `(x - x) - (x - x)`.  On a real `x`
   the last two are zero and the split product is the product.  On an infinite `x` the split product is
   infinite, as the product is, or both are zero.  So the two rotated weights agree or are both infinite
   (`Same`), they have one absolute value, and dividing by a scale made from that absolute value gives one
   quotient. -/
module

public import Idealize.ShloMosaic.PureOps.Ideal

@[expose] public section

noncomputable section

namespace Cert.Arith

open Idealize.ShloMosaic

/-- An infinite extended real. -/
def Inf (a : EReal) : Prop := a = ⊤ ∨ a = ⊥

/-- Two extended reals that are equal, or both infinite. -/
def Same (a b : EReal) : Prop := a = b ∨ (Inf a ∧ Inf b)

theorem Same.refl (a : EReal) : Same a a := .inl rfl

/-- A sum with an infinite summand is infinite. -/
theorem Inf.add {a : EReal} (h : Inf a) (b : EReal) : Inf (a + b) := by
  rcases h with rfl | rfl
  · induction b with
    | bot => exact .inr (EReal.add_bot _)
    | coe x => exact .inl (EReal.top_add_coe x)
    | top => exact .inl rfl
  · exact .inr (EReal.bot_add _)

/-- A finite sum with an infinite summand is infinite. -/
theorem Inf.sum {ι : Type} [Fintype ι] {f : ι → EReal} {i : ι} (h : Inf (f i)) : Inf (∑ k, f k) := by
  classical
  rw [← Finset.add_sum_erase _ _ (Finset.mem_univ i)]
  exact h.add _

/-- Sums of summands that are pairwise the same are the same. -/
theorem Same.sum {ι : Type} [Fintype ι] {f g : ι → EReal} (h : ∀ i, Same (f i) (g i)) : Same (∑ k, f k) (∑ k, g k) := by
  by_cases hi : ∃ i, Inf (f i) ∧ Inf (g i)
  · obtain ⟨i, hf, hg⟩ := hi
    exact .inr ⟨hf.sum, hg.sum⟩
  · refine .inl (Finset.sum_congr rfl fun i _ => ?_)
    rcases h i with e | e
    · exact e
    · exact absurd ⟨i, e⟩ hi

/-- A product of `r` and `x`, with `x` split in three parts. -/
def split (r x : EReal) : EReal := r * x + r * (x - x) + r * ((x - x) - (x - x))

/-- The split product is the product, or both are infinite. -/
theorem same_split (r x : EReal) : Same (r * x) (split r x) := by
  by_cases hr : r = 0
  · left
    simp [split, hr]
  · by_cases hx : Inf x
    · have hrx : Inf (r * x) := by
        rcases lt_or_gt_of_ne hr with h | h <;> rcases hx with rfl | rfl
        · exact .inr (EReal.mul_top_of_neg h)
        · exact .inl (EReal.mul_bot_of_neg h)
        · exact .inl (EReal.mul_top_of_pos h)
        · exact .inr (EReal.mul_bot_of_pos h)
      exact .inr ⟨hrx, (hrx.add _).add _⟩
    · left
      have e : x - x = 0 := EReal.sub_self (fun h => hx (.inl h)) (fun h => hx (.inr h))
      simp [split, e]

/-- The absolute value, as a maximum. -/
def abs (a : EReal) : EReal := max a (-a)

theorem abs_of_inf {a : EReal} (h : Inf a) : abs a = ⊤ := by
  rcases h with rfl | rfl <;> simp [abs]

/-- The same extended reals have one absolute value. -/
theorem Same.abs {a b : EReal} (h : Same a b) : Arith.abs a = Arith.abs b := by
  rcases h with rfl | ⟨ha, hb⟩
  · rfl
  · rw [abs_of_inf ha, abs_of_inf hb]

/-- The scale of a group whose largest absolute value is `a`: one seventh of it, but one for zero. -/
def scale (a : EReal) : EReal := if a = 0 then 1 else Ideal.div a ((7 : ℝ) : EReal)

/-- A group that holds an infinite value has an infinite scale. -/
theorem scale_top : scale ⊤ = ⊤ := by
  rw [scale, if_neg (by simp), Ideal.div_coe (by norm_num)]
  exact EReal.top_mul_coe_of_pos (by norm_num)

/-- Dividing by an infinite scale gives zero. -/
theorem div_top (a : EReal) : Ideal.div a ⊤ = 0 := by
  rw [Ideal.div, if_neg (by simp), EReal.inv_top, mul_zero]

/-- The same weights divided by the scale of a group that holds one of them give one quotient. -/
theorem Same.div_scale {a b m : EReal} (h : Same a b) (hm : Arith.abs a ≤ m) :
    Ideal.div a (scale m) = Ideal.div b (scale m) := by
  rcases h with rfl | ⟨ha, hb⟩
  · rfl
  · rw [abs_of_inf ha, top_le_iff] at hm
    rw [hm, scale_top, div_top, div_top]

/-- The integer a quotient rounds to: half to even, clamped to seven either way. -/
def word (x : EReal) : BitVec 32 :=
  FloatOps.fptosi (F := Ideal) (φ := .f32) 32
    (min (Ideal.ofBits .f32 0x40E00000#32) (max (Ideal.ofBits .f32 0xC0E00000#32) (Ideal.liftRound Ideal.roundHalfEven x)))

/-- Two integers packed as the two nibbles of a byte. -/
def pack (a b : BitVec 32) : BitVec 8 := BitVec.setWidth 8 (IntOp.ori (IntOp.andi a 15#32) (IntOp.shli .vector (IntOp.andi b 15#32) 4#32))

/-- Fifteen has no bit above the low byte. -/
theorem fifteen_high : ∀ k : Fin 32, 8 ≤ k.val → (15#32)[k.val]'k.isLt = false := by decide

/-- Narrowing to a byte and widening again leaves the low four bits. -/
theorem nibble (a : BitVec 32) : IntOp.andi (BitVec.signExtend 32 (BitVec.setWidth 8 a)) 15#32 = IntOp.andi a 15#32 := by
  show BitVec.signExtend 32 (BitVec.setWidth 8 a) &&& 15#32 = a &&& 15#32
  ext i hi
  by_cases h : i < 8
  · simp [BitVec.getElem_signExtend, h, BitVec.getLsbD_eq_getElem hi]
  · simp [fifteen_high ⟨i, hi⟩ (by simpa using h)]

/-- The word of minus infinity. -/
theorem ofBits_bot : Ideal.ofBits .f32 0xFF800000#32 = (⊥ : EReal) := by
  simp [Ideal.ofBits, Ideal.ieee]

/-- The word of seven. -/
theorem ofBits_seven : Ideal.ofBits .f32 0x40E00000#32 = ((7 : ℝ) : EReal) := by
  simp [Ideal.ofBits, Ideal.ieee, -EReal.coe_mul]; norm_num

end Cert.Arith
-- ==== Proof.Block.lean ====
/- What one block's products hold at an index: each head after both rotations is a sum of split products of the
   once-rotated weights with the permuted second rotation. -/
module

public import proofs.«01_k».proof.Proof.State
public import proofs.«01_k».proof.Proof.Arith

@[expose] public section

set_option maxRecDepth 16384

noncomputable section

namespace Cert.KernelIdeal.Block

open Cert.KernelIdeal Cert.KernelIdeal.Gen Cert.KernelIdeal.State
open Idealize.ShloMosaic Idealize.ShloMosaic.TcCoe Idealize.SL.Sem

/-- The column the permutation takes row `e` from: the even rows first, then the odd ones. -/
def src (e : Fin 64) : Fin 64 := if h : e.val < 32 then ⟨2 * e.val, by omega⟩ else ⟨2 * (e.val - 32) + 1, by omega⟩

/-- The permutation's word at row `e`, column `k`: one at the source of the row, zero elsewhere. -/
theorem perm_word : ∀ e k : Fin 64, BitVec.setWidth 32
    (IntOp.cmpi CmpIPredicate.eq (BitVec.ofNat 32 k.val)
      (Scalar.select (IntOp.cmpi CmpIPredicate.slt (BitVec.ofNat 32 e.val) 32#32)
        (IntOp.muli (2#32) (BitVec.ofNat 32 e.val))
        (IntOp.addi (IntOp.muli (2#32) (IntOp.subi (BitVec.ofNat 32 e.val) 32#32)) 1#32)))
      = if k = src e then 1#32 else 0#32 := by
  decide +kernel

/-- The permuted second rotation: row `e` is column `src e` of the argument. -/
theorem pay4_at (x3 : Vec Ideal S1x64x64 .bf16) (e d : Fin 64) :
    k0_pay4 (F := Ideal) x3 (ix2 e d) = (x3 (ix3 0 d (src e)) : EReal) := by
  pointwise [k0_pay4, dot_S64x64_S64x64_S64x64_1_0_0_1_n_n]
  simp only [perm_word]
  rw [Finset.sum_eq_single (src e)]
  · simp [FloatOps.sitofp]
  · intro k _ hk
    simp [hk, FloatOps.sitofp]
  · simp

/-- A sum over 256 is four sums over 64. -/
theorem sum256 (f : Fin 256 → EReal) : ∑ x, f x
    = ∑ d : Fin 64, f ⟨d.val, by omega⟩ + ∑ d : Fin 64, f ⟨64 + d.val, by omega⟩
      + ∑ d : Fin 64, f ⟨128 + d.val, by omega⟩ + ∑ d : Fin 64, f ⟨192 + d.val, by omega⟩ := by
  rw [show (∑ x, f x) = _ from Fin.sum_univ_add (a := 192) (b := 64) f,
    Fin.sum_univ_add (a := 128) (b := 64), Fin.sum_univ_add (a := 64) (b := 64)]
  rfl

/-- Stacked matrix 0 is what the first store put there. -/
theorem rot_at0 (x3 : Vec Ideal S1x64x64 .bf16) (e : Fin 128) (x : Fin 256) :
    (rotOf (F := Ideal) x3) (ix3 0 e x) = k0_pay7 (F := Ideal) (k0_pay6 x3) (ix3 0 e x) := by
  unfold rotOf
  canon_tiles
  · exact absurd (show (0 : ℕ) = 2 + (x 0).val from h0) (by omega)
  · exact absurd (show (0 : ℕ) = 1 + (x 0).val from h0) (by omega)
  · congr 1
    funext a
    match a with
    | ⟨0, _⟩ => exact Fin.ext h0.symm
    | ⟨1, _⟩ => exact Fin.ext h1.symm
    | ⟨2, _⟩ => exact Fin.ext h2.symm

/-- Stacked matrix 1 is what the second store put there. -/
theorem rot_at1 (x3 : Vec Ideal S1x64x64 .bf16) (e : Fin 128) (x : Fin 256) :
    (rotOf (F := Ideal) x3) (ix3 1 e x) = k0_pay8 (F := Ideal) (k0_pay4 x3) k0_pay5 (ix3 0 e x) := by
  unfold rotOf
  canon_tiles
  · exact absurd (show (1 : ℕ) = 2 + (x 0).val from h0) (by omega)
  · congr 1
    funext a
    match a with
    | ⟨0, _⟩ => exact Fin.ext (show (x 0).val = 0 by omega)
    | ⟨1, _⟩ => exact Fin.ext h1.symm
    | ⟨2, _⟩ => exact Fin.ext h2.symm
  · exact absurd (show (1 : ℕ) = (x 0).val from h0) (by omega)

/-- Stacked matrix 2 is what the third store put there. -/
theorem rot_at2 (x3 : Vec Ideal S1x64x64 .bf16) (e : Fin 128) (x : Fin 256) :
    (rotOf (F := Ideal) x3) (ix3 2 e x) = k0_pay9 (F := Ideal) (k0_pay4 x3) k0_pay5 (ix3 0 e x) := by
  unfold rotOf
  canon_tiles
  · congr 1
    funext a
    match a with
    | ⟨0, _⟩ => exact Fin.ext (show (x 0).val = 0 by omega)
    | ⟨1, _⟩ => exact Fin.ext h1.symm
    | ⟨2, _⟩ => exact Fin.ext h2.symm
  · exact absurd (show (2 : ℕ) = 1 + (x 0).val from h0) (by omega)
  · exact absurd (show (2 : ℕ) = (x 0).val from h0) (by omega)

/-! Offsets of a stacked block taken away again. -/
theorem off1 (n : ℕ) : 64 + n - 64 = n := by omega
theorem off2 (n : ℕ) : 128 + n - 64 - 64 = n := by omega
theorem off3 (n : ℕ) : 192 + n - 64 - 64 - 64 = n := by omega

section
variable (wb : Vec Ideal S256x6144 .bf16) (x3 : Vec Ideal S1x64x64 .bf16) (x2 : Vec Ideal S6144x512 .bf16)

/-- Head 0 after both rotations, at its permuted row `e`: the split products summed. -/
theorem head_at0 (e : Fin 64) (l : Fin 512) :
    (k0_pay27 (prodA (F := Ideal) wb (rotOf x3) x2) (ix2 e l) : EReal)
      = ∑ d : Fin 64, Arith.split (k0_pay4 x3 (ix2 e d)) (k0_pay10 wb x2 (ix2 ⟨d.val, by omega⟩ l)) := by
  pointwise [prodA, k0_pay27, k0_pay23, dot_S128x256_S256x512_S128x512_1_0_0_1_n_n, rot0]
  rw [sum256]
  simp (disch := omega) only [dif_pos, dif_neg, off1, off2, off3, rot_at0]
  pointwise [k0_pay6, k0_pay7, k0_pay12]
  simp (disch := omega) only [dif_pos, dif_neg, off1, off2, off3]
  pointwise [k0_pay5]
  simp only [Arith.split, Finset.sum_add_distrib, zero_mul, Finset.sum_const_zero, add_zero]

/-- Head 1 after both rotations, at its permuted row `e`: the split products summed. -/
theorem head_at1 (e : Fin 64) (l : Fin 512) :
    (k0_pay28 (prodA (F := Ideal) wb (rotOf x3) x2) (k0_pay24 wb x2) (rot1 (rotOf x3)) (ix2 e l) : EReal)
      = ∑ d : Fin 64, Arith.split (k0_pay4 x3 (ix2 e d)) (k0_pay10 wb x2 (ix2 ⟨64 + d.val, by omega⟩ l)) := by
  pointwise [prodA, k0_pay28, k0_pay23, k0_pay25, k0_pay24, dot_S128x256_S256x512_S128x512_1_0_0_1_n_n, rot0, rot1]
  rw [sum256, sum256]
  simp (disch := omega) only [dif_pos, dif_neg, off1, off2, off3, rot_at0, rot_at1]
  pointwise [k0_pay6, k0_pay7, k0_pay8, k0_pay12, k0_pay11, k0_pay14, k0_pay13, k0_pay16, k0_pay15]
  simp (disch := omega) only [dif_pos, dif_neg, off1, off2, off3]
  pointwise [k0_pay5]
  simp only [Arith.split, Finset.sum_add_distrib, zero_mul, Finset.sum_const_zero, add_zero, zero_add]
  ac_rfl

/-- Head 2 after both rotations, at its permuted row `e`: the split products summed. -/
theorem head_at2 (e : Fin 64) (l : Fin 512) :
    (head2 (F := Ideal) wb (rotOf x3) x2 (ix2 e l) : EReal)
      = ∑ d : Fin 64, Arith.split (k0_pay4 x3 (ix2 e d)) (k0_pay10 wb x2 (ix2 ⟨128 + d.val, by omega⟩ l)) := by
  pointwise [head2, k0_pay29, k0_pay25, k0_pay26, k0_pay24, dot_S128x256_S256x512_S128x512_1_0_0_1_n_n, rot2, rot1]
  rw [sum256, sum256]
  simp (disch := omega) only [dif_pos, dif_neg, off1, off2, off3, rot_at2, rot_at1]
  pointwise [k0_pay9, k0_pay8, k0_pay12, k0_pay11, k0_pay14, k0_pay13, k0_pay16, k0_pay15, k0_pay17, k0_pay18, k0_pay19, k0_pay20, k0_pay21, k0_pay22]
  simp (disch := omega) only [dif_pos, dif_neg, off1, off2, off3]
  pointwise [k0_pay5]
  simp only [Arith.split, Finset.sum_add_distrib, zero_mul, Finset.sum_const_zero, add_zero, zero_add]

/-- Head 3 after both rotations, at its permuted row `e`: the split products summed. -/
theorem head_at3 (e : Fin 64) (l : Fin 512) :
    (head3 (F := Ideal) wb (rotOf x3) x2 (ix2 e l) : EReal)
      = ∑ d : Fin 64, Arith.split (k0_pay4 x3 (ix2 e d)) (k0_pay10 wb x2 (ix2 ⟨192 + d.val, by omega⟩ l)) := by
  pointwise [head3, k0_pay30, k0_pay26, dot_S128x256_S256x512_S128x512_1_0_0_1_n_n, rot2]
  rw [sum256]
  simp (disch := omega) only [dif_pos, dif_neg, off1, off2, off3, rot_at2]
  pointwise [k0_pay9, k0_pay17, k0_pay15, k0_pay16, k0_pay14, k0_pay13, k0_pay18, k0_pay19, k0_pay20, k0_pay21, k0_pay22]
  simp (disch := omega) only [dif_pos, dif_neg, off1, off2, off3]
  pointwise [k0_pay5]
  simp only [Arith.split, Finset.sum_add_distrib, zero_mul, Finset.sum_const_zero, add_zero, zero_add]
end

end Cert.KernelIdeal.Block
-- ==== Proof.Quant.lean ====
/- What one block's two results hold at an index: the group scales and the packed codes, in terms of the rotated
   heads. -/
module

public import proofs.«01_k».proof.Proof.State
public import proofs.«01_k».proof.Proof.Arith

@[expose] public section

set_option maxRecDepth 16384

noncomputable section

namespace Cert.KernelIdeal.Quant

open Cert.KernelIdeal Cert.KernelIdeal.Gen Cert.KernelIdeal.State
open Idealize.ShloMosaic Idealize.ShloMosaic.TcCoe Idealize.SL.Sem

variable (wb : Vec Ideal S256x6144 .bf16) (L : Vec Ideal S3x128x256 .bf16) (x2 : Vec Ideal S6144x512 .bf16)

/-- Head 0 after both rotations. -/
abbrev hd0 : Vec Ideal S64x512 .f32 := k0_pay27 (prodA wb L x2)
/-- Head 1 after both rotations. -/
abbrev hd1 : Vec Ideal S64x512 .f32 := k0_pay28 (prodA wb L x2) (k0_pay24 wb x2) (rot1 L)

/-- A fold of maxima from minus infinity over absolute values, and the scale made from it. -/
theorem scale_fold (f g : Fin 64 → EReal) (m : EReal)
    (hm : m = Finset.fold max (Ideal.ofBits .f32 0xFF800000#32)
      (fun e => max (FloatOps.absf (F := Ideal) (φ := .f32) (f e)) (FloatOps.absf (F := Ideal) (φ := .f32) (g e))) Finset.univ) :
    (if m = 0 then 1 else Ideal.div m (Ideal.ofBits .f32 0x40E00000#32))
      = Arith.scale (Finset.univ.sup fun e : Fin 64 => max (Arith.abs (f e)) (Arith.abs (g e))) := by
  subst hm
  rw [Arith.ofBits_bot, Arith.ofBits_seven]
  rfl

/-- The scale row of heads 2 and 3. -/
theorem pay36_at (a b : Vec Ideal S64x512 .f32) (l : Fin 512) :
    (k0_pay36 (F := Ideal) a b (ix2 0 l) : EReal)
      = Arith.scale (Finset.univ.sup fun e : Fin 64 => max (Arith.abs (a (ix2 e l))) (Arith.abs (b (ix2 e l)))) := by
  pointwise [k0_pay36]
  exact scale_fold (fun e => a (ix2 e l)) (fun e => b (ix2 e l)) _ rfl

/-- The scale row of heads 0 and 1. -/
theorem pay31_at (l : Fin 512) :
    (k0_pay31 (F := Ideal) (prodA wb L x2) (k0_pay24 wb x2) (rot1 L) (ix2 0 l) : EReal)
      = Arith.scale (Finset.univ.sup fun e : Fin 64 => max (Arith.abs (hd0 wb L x2 (ix2 e l))) (Arith.abs (hd1 wb L x2 (ix2 e l)))) := by
  pointwise [k0_pay31]
  exact scale_fold (fun e => hd0 wb L x2 (ix2 e l)) (fun e => hd1 wb L x2 (ix2 e l)) _ rfl

/-- The first scale row is that of heads 0 and 1. -/
theorem scales_at0 (l : Fin 512) : scalesOf (F := Ideal) wb L x2 (ix3 0 0 l) = k0_pay31 (prodA wb L x2) (k0_pay24 wb x2) (rot1 L) (ix2 0 l) := by
  pointwise [scalesOf, k0_pay2]

/-- The second scale row is that of heads 2 and 3. -/
theorem scales_at1 (l : Fin 512) : scalesOf (F := Ideal) wb L x2 (ix3 0 1 l) = k0_pay36 (head2 wb L x2) (head3 wb L x2) (ix2 0 l) := by
  pointwise [scalesOf, k0_pay2]

/-- Code rows 0 to 31: head 0, rows `u` and `v = 32 + u`. -/
theorem codes_at0 (p : Fin 128) (u v : Fin 64) (l : Fin 512) (h : p.val < 32) (hu : u.val = p.val) (hv : v.val = 32 + p.val) :
    codesOf (F := Ideal) wb L x2 (ix3 0 p l)
      = Arith.pack (Arith.word (Ideal.div (hd0 wb L x2 (ix2 u l)) (k0_pay31 (F := Ideal) (prodA wb L x2) (k0_pay24 wb x2) (rot1 L) (ix2 0 l))))
          (Arith.word (Ideal.div (hd0 wb L x2 (ix2 v l)) (k0_pay31 (F := Ideal) (prodA wb L x2) (k0_pay24 wb x2) (rot1 L) (ix2 0 l)))) := by
  obtain ⟨u, hu'⟩ := u
  obtain ⟨v, hv'⟩ := v
  change u = p.val at hu
  change v = 32 + p.val at hv
  subst hu hv
  unfold Arith.pack Arith.word
  pointwise [codesOf, k0_pay1, k0_pay35, k0_pay33, k0_pay34, k0_pay37, k0_pay39, k0_pay40, k0_pay38, k0_pay32]
  simp (disch := omega) only [dif_pos, dif_neg]

/-- Code rows 32 to 63: head 1, rows `u` and `v = 32 + u`. -/
theorem codes_at1 (p : Fin 128) (u v : Fin 64) (l : Fin 512) (h : 32 ≤ p.val) (h' : p.val < 64) (hu : u.val = p.val - 32) (hv : v.val = 32 + (p.val - 32)) :
    codesOf (F := Ideal) wb L x2 (ix3 0 p l)
      = Arith.pack (Arith.word (Ideal.div (hd1 wb L x2 (ix2 u l)) (k0_pay31 (F := Ideal) (prodA wb L x2) (k0_pay24 wb x2) (rot1 L) (ix2 0 l))))
          (Arith.word (Ideal.div (hd1 wb L x2 (ix2 v l)) (k0_pay31 (F := Ideal) (prodA wb L x2) (k0_pay24 wb x2) (rot1 L) (ix2 0 l)))) := by
  obtain ⟨u, hu'⟩ := u
  obtain ⟨v, hv'⟩ := v
  change u = p.val - 32 at hu
  change v = 32 + (p.val - 32) at hv
  subst hu hv
  unfold Arith.pack Arith.word
  pointwise [codesOf, k0_pay1, k0_pay35, k0_pay33, k0_pay34, k0_pay37, k0_pay39, k0_pay40, k0_pay38, k0_pay32]
  simp (disch := omega) only [dif_pos, dif_neg]

/-- Code rows 64 to 95: head 2, rows `u` and `v = 32 + u`. -/
theorem codes_at2 (p : Fin 128) (u v : Fin 64) (l : Fin 512) (h : 64 ≤ p.val) (h' : p.val < 96) (hu : u.val = p.val - 64) (hv : v.val = 32 + (p.val - 64)) :
    codesOf (F := Ideal) wb L x2 (ix3 0 p l)
      = Arith.pack (Arith.word (Ideal.div (head2 wb L x2 (ix2 u l)) (k0_pay36 (F := Ideal) (head2 wb L x2) (head3 wb L x2) (ix2 0 l))))
          (Arith.word (Ideal.div (head2 wb L x2 (ix2 v l)) (k0_pay36 (F := Ideal) (head2 wb L x2) (head3 wb L x2) (ix2 0 l)))) := by
  obtain ⟨u, hu'⟩ := u
  obtain ⟨v, hv'⟩ := v
  change u = p.val - 64 at hu
  change v = 32 + (p.val - 64) at hv
  subst hu hv
  unfold Arith.pack Arith.word
  pointwise [codesOf, k0_pay1, k0_pay35, k0_pay33, k0_pay34, k0_pay37, k0_pay39, k0_pay40, k0_pay38, k0_pay32]
  simp (disch := omega) only [dif_pos, dif_neg]

/-- Code rows 96 to 127: head 3, rows `u` and `v = 32 + u`. -/
theorem codes_at3 (p : Fin 128) (u v : Fin 64) (l : Fin 512) (h : 96 ≤ p.val) (hu : u.val = p.val - 64 - 32) (hv : v.val = 32 + (p.val - 64 - 32)) :
    codesOf (F := Ideal) wb L x2 (ix3 0 p l)
      = Arith.pack (Arith.word (Ideal.div (head3 wb L x2 (ix2 u l)) (k0_pay36 (F := Ideal) (head2 wb L x2) (head3 wb L x2) (ix2 0 l))))
          (Arith.word (Ideal.div (head3 wb L x2 (ix2 v l)) (k0_pay36 (F := Ideal) (head2 wb L x2) (head3 wb L x2) (ix2 0 l)))) := by
  obtain ⟨u, hu'⟩ := u
  obtain ⟨v, hv'⟩ := v
  change u = p.val - 64 - 32 at hu
  change v = 32 + (p.val - 64 - 32) at hv
  subst hu hv
  unfold Arith.pack Arith.word
  pointwise [codesOf, k0_pay1, k0_pay35, k0_pay33, k0_pay34, k0_pay37, k0_pay39, k0_pay40, k0_pay38, k0_pay32]
  simp (disch := omega) only [dif_pos, dif_neg]

end Cert.KernelIdeal.Quant
-- ==== Proof.RefValue.lean ====
/- The reference's two results, in named steps, and what each step holds at an index. -/
module

public import proofs.«01_k».proof.Proof.Gen.ReferenceIdeal.Run
public import proofs.«01_k».proof.Proof.Arith
public import Idealize.ShloMosaic.Lib.Pointwise

@[expose] public section

set_option maxRecDepth 16384

noncomputable section

namespace Cert.ReferenceIdeal.Steps

open Cert.ReferenceIdeal Cert.ReferenceIdeal.Gen
open Idealize.ShloMosaic Idealize.ShloMosaic.TcCoe Idealize.SL.Sem Idealize.ShloMosaic.StableHlo

section
variable {F : FTy → Type} [FloatOps F]

/-- The dequantised weights. -/
def weights (a0 : Vec F S1x256x6144 .i8) (a1 : Vec F S1x6144 .f32) : Vec F S1x256x6144 .bf16 :=
  mulf (sitofp .bf16 (extsi 32 a0 natLt_8_32)) (broadcastInDim S1x256x6144 ![0, 1, 2] bcast_S1x1x6144_S1x256x6144_0_1_2 (broadcastInDim S1x1x6144 ![0, 2] bcast_S1x6144_S1x1x6144_0_2 (truncf .bf16 a1 bitsLt_bf16_f32)))

/-- The weights after the first rotation. -/
def once (b : Vec F S1x256x6144 .bf16) (a2 : Vec F S6144x6144 .bf16) : Vec F S1x256x6144 .f32 :=
  Host.dotGeneral dot_S1x256x6144_S6144x6144_S1x256x6144_2_0_01_1_n_n none b a2

/-- The weights after both rotations, a head per second coordinate. -/
def twice (b : Vec F S1x256x6144 .f32) (a3 : Vec F S1x64x64 .bf16) : Vec F S1x4x6144x64 .f32 :=
  Host.dotGeneral dot_S1x4x64x6144_S1x64x64_S1x4x6144x64_2_1_13_2_0_0 (some .fp32) (shapeCast _ b shapeCasts_S1x256x6144_S1x4x64x6144) (extf .f32 a3 bitsLt_bf16_f32)

/-- The rotated weights in two groups of 128 rows. -/
def groups (b : Vec F S1x4x6144x64 .f32) : Vec F S1x2x128x6144 .f32 :=
  shapeCast _ (shapeCast _ (transpose S1x4x64x6144 [0, 1, 3, 2] b transposes_S1x4x6144x64_S1x4x64x6144_0_1_3_2) shapeCasts_S1x4x64x6144_S1x256x6144) shapeCasts_S1x256x6144_S1x2x128x6144

/-- The largest absolute value of each group. -/
def largest (g : Vec F S1x2x128x6144 .f32) : Vec F S1x2x6144 .f32 :=
  Host.reduce FloatOps.maximumf (Host.absf g) (constant S_ .f32 0xFF800000#32) reducesTo_S1x2x128x6144_S1x2x6144_d2 h_S_

/-- The scale of each group. -/
def scales (g : Vec F S1x2x128x6144 .f32) : Vec F S1x2x6144 .bf16 :=
  truncf .bf16 (select (cmpf .oeq (largest g) (broadcastInDim S1x2x6144 ![] bcast_S_S1x2x6144 (constant S_ .f32 0x00000000#32))) (broadcastInDim S1x2x6144 ![] bcast_S_S1x2x6144 (constant S_ .f32 0x3F800000#32)) (Host.divf (largest g) (broadcastInDim S1x2x6144 ![] bcast_S_S1x2x6144 (constant S_ .f32 0x40E00000#32)))) bitsLt_bf16_f32

/-- The codes, a row per weight row. -/
def codes (g : Vec F S1x2x128x6144 .f32) : Vec F S1x256x6144 .i8 :=
  shapeCast _ (trunci 8 (fptosi 32 (minimumf (broadcastInDim S1x2x128x6144 ![] bcast_S_S1x2x128x6144 (id (constant S_ .f32 0x40E00000#32))) (maximumf (broadcastInDim S1x2x128x6144 ![] bcast_S_S1x2x128x6144 (id (constant S_ .f32 0xC0E00000#32))) (Host.roundeven (Host.divf g (broadcastInDim S1x2x128x6144 ![0, 1, 2, 3] bcast_S1x2x1x6144_S1x2x128x6144_0_1_2_3 (broadcastInDim S1x2x1x6144 ![0, 1, 3] bcast_S1x2x6144_S1x2x1x6144_0_1_3 (extf .f32 (scales g) bitsLt_bf16_f32)))))))) natLt_8_32) shapeCasts_S1x2x128x6144_S1x256x6144

/-- The packed codes: the even rows in the low nibbles, the odd rows in the high ones. -/
def packed (g : Vec F S1x2x128x6144 .f32) : Vec F S1x128x6144 .i8 :=
  trunci 8 (ori (andi (extsi 32 (Host.slice S1x128x6144 ![0, 0, 0] ![1, 2, 1] (codes g) slicesBy_S1x256x6144_S1x128x6144_0s1_0s2_0s1) natLt_8_32) (broadcastInDim S1x128x6144 ![] bcast_S_S1x128x6144 (constantI S_ 32 15#32))) (Host.shli (andi (extsi 32 (Host.slice S1x128x6144 ![0, 1, 0] ![1, 2, 1] (codes g) slicesBy_S1x256x6144_S1x128x6144_0s1_1s2_0s1) natLt_8_32) (broadcastInDim S1x128x6144 ![] bcast_S_S1x128x6144 (constantI S_ 32 15#32))) (broadcastInDim S1x128x6144 ![] bcast_S_S1x128x6144 (constantI S_ 32 4#32)))) natLt_8_32

/-- The reference's rotated weights as a term of its arguments. -/
def rotated (a0 : Vec F S1x256x6144 .i8) (a1 : Vec F S1x6144 .f32) (a2 : Vec F S6144x6144 .bf16) (a3 : Vec F S1x64x64 .bf16) :
    Vec F S1x2x128x6144 .f32 := groups (twice (once (weights a0 a1) a2) a3)

/-- The reference's codes are the packed codes of its rotated weights. -/
theorem out_codes (m : (ℓ : Loc nD τ sig) → Buf (Elt F) ℓ) (c : Dev nD) :
    Value.res_main_v41 m c = packed (rotated (m ((c.tc : Thread nD τ).loc main_arg0)) (m ((c.tc : Thread nD τ).loc main_arg1))
      (m ((c.tc : Thread nD τ).loc main_arg2)) (m ((c.tc : Thread nD τ).loc main_arg3))) := rfl

end

/-- A weight: its integer times its column's scale. -/
theorem weights_at (a0 : Vec Ideal S1x256x6144 .i8) (a1 : Vec Ideal S1x6144 .f32) (r : Fin 256) (j : Fin 6144) :
    (weights (F := Ideal) a0 a1 (ix3 0 r j) : EReal)
      = FloatOps.sitofp (F := Ideal) .bf16 (BitVec.signExtend 32 (a0 (ix3 0 r j))) * (a1 (ix2 0 j) : EReal) := by
  pointwise [weights]

/-- A weight after the first rotation. -/
theorem once_at (b : Vec Ideal S1x256x6144 .bf16) (a2 : Vec Ideal S6144x6144 .bf16) (r : Fin 256) (o : Fin 6144) :
    (once (F := Ideal) b a2 (ix3 0 r o) : EReal) = ∑ x : Fin 6144, (b (ix3 0 r x) : EReal) * (a2 (ix2 x o) : EReal) := by
  pointwise [once, dot_S1x256x6144_S6144x6144_S1x256x6144_2_0_01_1_n_n]

/-- A weight after both rotations. -/
theorem twice_at (b : Vec Ideal S1x256x6144 .f32) (a3 : Vec Ideal S1x64x64 .bf16) (h : Fin 4) (o : Fin 6144) (e : Fin 64) :
    (twice (F := Ideal) b a3 (ix4 0 h o e) : EReal)
      = ∑ x : Fin 64, (b (ix3 0 ⟨h.val * 64 + x.val, by omega⟩ o) : EReal) * (a3 (ix3 0 x e) : EReal) := by
  pointwise [twice, dot_S1x4x64x6144_S1x64x64_S1x4x6144x64_2_1_13_2_0_0]

/-- A row of a group is a row of one of its two heads. -/
theorem groups_at (b : Vec Ideal S1x4x6144x64 .f32) (g : Fin 2) (r : Fin 128) (o : Fin 6144) :
    groups (F := Ideal) b (ix4 0 g r o) = b (ix4 0 ⟨g.val * 2 + r.val / 64, by omega⟩ o ⟨r.val % 64, by omega⟩) := by
  pointwise [groups]

/-- The scale of a group: a seventh of its largest absolute value, but one for zero. -/
theorem scales_at (x : Vec Ideal S1x2x128x6144 .f32) (g : Fin 2) (o : Fin 6144) :
    (scales (F := Ideal) x (ix3 0 g o) : EReal)
      = Arith.scale (Finset.univ.sup fun r : Fin 128 => Arith.abs (x (ix4 0 g r o) : EReal)) := by
  pointwise [scales, largest]
  rw [Arith.ofBits_bot, Arith.ofBits_seven]
  rfl

/-- A code: the low byte of the integer the quotient rounds to. -/
theorem codes_at (x : Vec Ideal S1x2x128x6144 .f32) (r : Fin 256) (o : Fin 6144) :
    codes (F := Ideal) x (ix3 0 r o)
      = BitVec.setWidth 8 (Arith.word (Ideal.div (x (ix4 0 ⟨r.val / 128, by omega⟩ ⟨r.val % 128, by omega⟩ o) : EReal)
          (scales (F := Ideal) x (ix3 0 ⟨r.val / 128, by omega⟩ o) : EReal))) := by
  unfold Arith.word
  pointwise [codes]
  rfl

/-- The two nibbles of a packed row: the codes of an even row and the next one. -/
theorem packed_at (x : Vec Ideal S1x2x128x6144 .f32) (p : Fin 128) (o : Fin 6144) (a b : BitVec 32)
    (ha : codes (F := Ideal) x (ix3 0 ⟨2 * p.val, by omega⟩ o) = BitVec.setWidth 8 a)
    (hb : codes (F := Ideal) x (ix3 0 ⟨1 + 2 * p.val, by omega⟩ o) = BitVec.setWidth 8 b) :
    packed (F := Ideal) x (ix3 0 p o) = Arith.pack a b := by
  pointwise [packed]
  rw [ha, hb, Arith.nibble, Arith.nibble]
  rfl

end Cert.ReferenceIdeal.Steps
-- ==== Proof.Equation.lean ====
/- One column of the kernel's two results is the column of the reference's: the rotated weights agree or are both
   infinite, so the scales agree, and so do the quotients, the codes and the packed bytes. -/
module

public import proofs.«01_k».proof.Proof.Block
public import proofs.«01_k».proof.Proof.Quant
public import proofs.«01_k».proof.Proof.RefValue

@[expose] public section

set_option maxRecDepth 16384

noncomputable section

namespace Cert.Equation

open Cert.KernelIdeal Cert.KernelIdeal.Gen Cert.KernelIdeal.State Cert.KernelIdeal.Block Cert.KernelIdeal.Quant
open Cert.ReferenceIdeal.Steps
open Idealize.ShloMosaic Idealize.ShloMosaic.TcCoe Idealize.SL.Sem

/-- The permuted row a head's row goes to. -/
def dst (r : Fin 64) : Fin 64 := if r.val % 2 = 0 then ⟨r.val / 2, by omega⟩ else ⟨32 + r.val / 2, by omega⟩

theorem src_dst : ∀ r : Fin 64, src (dst r) = r := by decide +kernel

/-- An even row's source, by value. -/
theorem src_low : ∀ e : Fin 64, e.val < 32 → (src e).val = 2 * e.val := by decide +kernel

/-- An odd row's source, by value. -/
theorem src_high : ∀ e : Fin 64, 32 ≤ e.val → (src e).val = 2 * (e.val - 32) + 1 := by decide +kernel

variable (a0 : Vec Ideal S1x256x6144 .i8) (a1 : Vec Ideal S1x6144 .f32) (a2 : Vec Ideal S6144x6144 .bf16)
  (a3 : Vec Ideal S1x64x64 .bf16) (X : Vec Ideal S6144x512 .bf16) (o : Fin 6144) (l : Fin 512)

/-- The reference's weight after the first rotation. -/
abbrev first (r : Fin 256) : EReal := once (F := Ideal) (weights a0 a1) a2 (ix3 0 r o)

/-- The reference's weight after both rotations, by group and row in the group. -/
abbrev ref (g : Fin 2) (r : Fin 128) : EReal := rotated (F := Ideal) a0 a1 a2 a3 (ix4 0 g r o)

/-- The kernel's weight after both rotations, by head and permuted row. -/
def ker (k : Fin 4) (e : Fin 64) : EReal :=
  ∑ d : Fin 64, Arith.split (a3 (ix3 0 d (src e))) (first a0 a1 a2 o ⟨k.val * 64 + d.val, by omega⟩)

/-- The kernel's dequantised weight is its integer times its column's scale. -/
theorem dequant_at (r : Fin 256) (j : Fin 6144) :
    (wbOf (F := Ideal) a0 a1 (ix2 r j) : EReal)
      = FloatOps.sitofp (F := Ideal) .bf16 (BitVec.signExtend 32 (a0 (ix3 0 r j))) * (a1 (ix2 0 j) : EReal) := by
  pointwise [wbOf, k0_pay3]
  simp [FloatOps.sitofp, BitVec.toInt_signExtend_of_le]

/-- A block's first rotation is the reference's, where the block's columns are the argument's. -/
theorem first_at (hX : ∀ k, X (ix2 k l) = a2 (ix2 k o)) (r : Fin 256) :
    (k0_pay10 (F := Ideal) (wbOf a0 a1) X (ix2 r l) : EReal) = first a0 a1 a2 o r := by
  refine Eq.trans ?_ (once_at (weights a0 a1) a2 r o).symm
  pointwise [k0_pay10, dot_S256x6144_S6144x512_S256x512_1_0_0_1_n_n]
  refine Finset.sum_congr rfl fun j _ => ?_
  rw [hX]
  exact congrArg (fun z : EReal => z * (a2 (ix2 j o) : EReal)) ((dequant_at a0 a1 r j).trans (weights_at a0 a1 r j).symm)

/-- Head 0 of a block. -/
theorem ker_at0 (hX : ∀ k, X (ix2 k l) = a2 (ix2 k o)) (e : Fin 64) :
    (hd0 (wbOf a0 a1) (rotOf a3) X (ix2 e l) : EReal) = ker a0 a1 a2 a3 o 0 e := by
  refine (head_at0 (wbOf a0 a1) a3 X e l).trans (Finset.sum_congr rfl fun d _ => ?_)
  rw [pay4_at, first_at a0 a1 a2 X o l hX]
  have e0 : (⟨d.val, by omega⟩ : Fin 256) = ⟨(0 : Fin 4).val * 64 + d.val, by omega⟩ := Fin.ext (by change d.val = 0 * 64 + d.val; omega)
  rw [e0]

/-- Head 1 of a block. -/
theorem ker_at1 (hX : ∀ k, X (ix2 k l) = a2 (ix2 k o)) (e : Fin 64) :
    (hd1 (wbOf a0 a1) (rotOf a3) X (ix2 e l) : EReal) = ker a0 a1 a2 a3 o 1 e := by
  refine (head_at1 (wbOf a0 a1) a3 X e l).trans (Finset.sum_congr rfl fun d _ => ?_)
  rw [pay4_at, first_at a0 a1 a2 X o l hX]
  rfl

/-- Head 2 of a block. -/
theorem ker_at2 (hX : ∀ k, X (ix2 k l) = a2 (ix2 k o)) (e : Fin 64) :
    (head2 (wbOf a0 a1) (rotOf a3) X (ix2 e l) : EReal) = ker a0 a1 a2 a3 o 2 e := by
  refine (head_at2 (wbOf a0 a1) a3 X e l).trans (Finset.sum_congr rfl fun d _ => ?_)
  rw [pay4_at, first_at a0 a1 a2 X o l hX]
  rfl

/-- Head 3 of a block. -/
theorem ker_at3 (hX : ∀ k, X (ix2 k l) = a2 (ix2 k o)) (e : Fin 64) :
    (head3 (wbOf a0 a1) (rotOf a3) X (ix2 e l) : EReal) = ker a0 a1 a2 a3 o 3 e := by
  refine (head_at3 (wbOf a0 a1) a3 X e l).trans (Finset.sum_congr rfl fun d _ => ?_)
  rw [pay4_at, first_at a0 a1 a2 X o l hX]
  rfl

/-- The reference's rotated weight and the kernel's at the row it goes to agree or are both infinite. -/
theorem same (g : Fin 2) (r : Fin 128) (k : Fin 4) (e : Fin 64) (hk : k.val = g.val * 2 + r.val / 64)
    (he : (src e).val = r.val % 64) : Arith.Same (ref a0 a1 a2 a3 o g r) (ker a0 a1 a2 a3 o k e) := by
  have h : ref a0 a1 a2 a3 o g r = ∑ d : Fin 64, (a3 (ix3 0 d (src e)) : EReal) * first a0 a1 a2 o ⟨k.val * 64 + d.val, by omega⟩ := by
    refine (groups_at _ g r o).trans ((twice_at _ _ _ _ _).trans (Finset.sum_congr rfl fun d _ => ?_))
    rw [mul_comm]
    have e1 : (⟨r.val % 64, by omega⟩ : Fin 64) = src e := Fin.ext he.symm
    rw [e1]
    refine congrArg (fun z => (a3 (ix3 0 d (src e)) : EReal) * first a0 a1 a2 o z) (Fin.ext ?_)
    change (g.val * 2 + r.val / 64) * 64 + d.val = k.val * 64 + d.val
    omega
  rw [h]
  exact Arith.Same.sum fun d => Arith.same_split _ _

/-- The largest absolute value of a group, from the kernel's two heads of it. -/
theorem largest_eq (g : Fin 2) (k k' : Fin 4) (hk : k.val = g.val * 2) (hk' : k'.val = g.val * 2 + 1) :
    (Finset.univ.sup fun e : Fin 64 => max (Arith.abs (ker a0 a1 a2 a3 o k e)) (Arith.abs (ker a0 a1 a2 a3 o k' e)))
      = Finset.univ.sup fun r : Fin 128 => Arith.abs (ref a0 a1 a2 a3 o g r) := by
  apply le_antisymm
  · refine Finset.sup_le fun e _ => max_le ?_ ?_
    · have hs := (same a0 a1 a2 a3 o g ⟨(src e).val, by omega⟩ k e (by simp only; omega) (by simp only; omega)).abs
      rw [← hs]
      exact Finset.le_sup (f := fun r : Fin 128 => Arith.abs (ref a0 a1 a2 a3 o g r)) (Finset.mem_univ _)
    · have hs := (same a0 a1 a2 a3 o g ⟨64 + (src e).val, by omega⟩ k' e (by simp only; omega) (by simp only; omega)).abs
      rw [← hs]
      exact Finset.le_sup (f := fun r : Fin 128 => Arith.abs (ref a0 a1 a2 a3 o g r)) (Finset.mem_univ _)
  · refine Finset.sup_le fun r _ => ?_
    have hd := src_dst ⟨r.val % 64, by omega⟩
    refine le_trans ?_ (Finset.le_sup
      (f := fun e : Fin 64 => max (Arith.abs (ker a0 a1 a2 a3 o k e)) (Arith.abs (ker a0 a1 a2 a3 o k' e)))
      (Finset.mem_univ (dst ⟨r.val % 64, by omega⟩)))
    by_cases h : r.val < 64
    · rw [(same a0 a1 a2 a3 o g r k _ (by omega) (by rw [hd])).abs]
      exact le_max_left _ _
    · rw [(same a0 a1 a2 a3 o g r k' _ (by omega) (by rw [hd])).abs]
      exact le_max_right _ _

/-- The reference's scale. -/
abbrev refScale (g : Fin 2) : EReal := scales (F := Ideal) (rotated a0 a1 a2 a3) (ix3 0 g o)

/-- The first scale row of a block is the reference's. -/
theorem scale0 (hX : ∀ k, X (ix2 k l) = a2 (ix2 k o)) :
    (k0_pay31 (F := Ideal) (prodA (wbOf a0 a1) (rotOf a3) X) (k0_pay24 (wbOf a0 a1) X) (rot1 (rotOf a3)) (ix2 0 l) : EReal)
      = refScale a0 a1 a2 a3 o 0 := by
  refine (pay31_at (wbOf a0 a1) (rotOf a3) X l).trans (Eq.trans ?_ (scales_at (rotated a0 a1 a2 a3) 0 o).symm)
  simp only [ker_at0 a0 a1 a2 a3 X o l hX, ker_at1 a0 a1 a2 a3 X o l hX]
  exact congrArg Arith.scale (largest_eq a0 a1 a2 a3 o 0 0 1 rfl rfl)

/-- The second scale row of a block is the reference's. -/
theorem scale1 (hX : ∀ k, X (ix2 k l) = a2 (ix2 k o)) :
    (k0_pay36 (F := Ideal) (head2 (wbOf a0 a1) (rotOf a3) X) (head3 (wbOf a0 a1) (rotOf a3) X) (ix2 0 l) : EReal)
      = refScale a0 a1 a2 a3 o 1 := by
  refine (pay36_at _ _ l).trans (Eq.trans ?_ (scales_at (rotated a0 a1 a2 a3) 1 o).symm)
  simp only [ker_at2 a0 a1 a2 a3 X o l hX, ker_at3 a0 a1 a2 a3 X o l hX]
  exact congrArg Arith.scale (largest_eq a0 a1 a2 a3 o 1 2 3 rfl rfl)

/-- The scales of a block's column are the reference's. -/
theorem scales_eq (hX : ∀ k, X (ix2 k l) = a2 (ix2 k o)) (g : Fin 2) :
    scalesOf (F := Ideal) (wbOf a0 a1) (rotOf a3) X (ix3 0 g l) = scales (F := Ideal) (rotated a0 a1 a2 a3) (ix3 0 g o) := by
  match g with
  | ⟨0, _⟩ => exact (scales_at0 _ _ _ l).trans (scale0 a0 a1 a2 a3 X o l hX)
  | ⟨1, _⟩ => exact (scales_at1 _ _ _ l).trans (scale1 a0 a1 a2 a3 X o l hX)

/-- A reference code, from the kernel's rotated weight. -/
theorem code_eq (r : Fin 256) (g : Fin 2) (k : Fin 4) (e : Fin 64) (hg : g.val = r.val / 128) (hk : k.val = r.val / 64)
    (he : (src e).val = r.val % 64) :
    codes (F := Ideal) (rotated a0 a1 a2 a3) (ix3 0 r o)
      = BitVec.setWidth 8 (Arith.word (Ideal.div (ker a0 a1 a2 a3 o k e) (refScale a0 a1 a2 a3 o g))) := by
  have eg : (⟨r.val / 128, by omega⟩ : Fin 2) = g := Fin.ext hg.symm
  refine (codes_at (rotated a0 a1 a2 a3) r o).trans ?_
  rw [eg]
  refine congrArg (fun q => BitVec.setWidth 8 (Arith.word q)) ?_
  have hs := scales_at (rotated a0 a1 a2 a3) g o
  have hd := (same a0 a1 a2 a3 o g ⟨r.val % 128, by omega⟩ k e (by simp only; omega) (by simp only; omega)).div_scale
    (Finset.le_sup (f := fun r : Fin 128 => Arith.abs (ref a0 a1 a2 a3 o g r)) (Finset.mem_univ _))
  exact (congrArg (Ideal.div _) hs).trans (hd.trans (congrArg (Ideal.div _) hs.symm))

/-- The packed codes of a block's column are the reference's. -/
theorem codes_eq (hX : ∀ k, X (ix2 k l) = a2 (ix2 k o)) (p : Fin 128) :
    codesOf (F := Ideal) (wbOf a0 a1) (rotOf a3) X (ix3 0 p l) = packed (F := Ideal) (rotated a0 a1 a2 a3) (ix3 0 p o) := by
  have low : ∀ u : Fin 64, u.val < 32 → (src u).val = 2 * u.val := src_low
  have high : ∀ v : Fin 64, 32 ≤ v.val → (src v).val = 2 * (v.val - 32) + 1 := src_high
  have key : ∀ (g : Fin 2) (k : Fin 4) (u v : Fin 64), g.val = p.val / 64 → k.val = p.val / 32 → u.val = p.val % 32 →
      v.val = 32 + p.val % 32 → packed (F := Ideal) (rotated a0 a1 a2 a3) (ix3 0 p o)
        = Arith.pack (Arith.word (Ideal.div (ker a0 a1 a2 a3 o k u) (refScale a0 a1 a2 a3 o g)))
            (Arith.word (Ideal.div (ker a0 a1 a2 a3 o k v) (refScale a0 a1 a2 a3 o g))) := by
    intro g k u v hg hk hu hv
    have lu := low u (by omega)
    have hv' := high v (by omega)
    exact packed_at _ p o _ _
      (code_eq a0 a1 a2 a3 o _ g k u (by simp only; omega) (by simp only; omega) (by simp only; omega))
      (code_eq a0 a1 a2 a3 o _ g k v (by simp only; omega) (by simp only; omega) (by simp only; omega))
  by_cases h0 : p.val < 32
  · rw [key 0 0 ⟨p.val, by omega⟩ ⟨32 + p.val, by omega⟩ (by simp only [Fin.val_zero]; omega) (by simp only [Fin.val_zero]; omega) (by simp only; omega) (by simp only; omega)]
    refine (codes_at0 (wbOf a0 a1) (rotOf a3) X p ⟨p.val, by omega⟩ ⟨32 + p.val, by omega⟩ l h0 rfl rfl).trans ?_
    rw [ker_at0 a0 a1 a2 a3 X o l hX, ker_at0 a0 a1 a2 a3 X o l hX, ← scale0 a0 a1 a2 a3 X o l hX]
  · by_cases h1 : p.val < 64
    · rw [key 0 1 ⟨p.val - 32, by omega⟩ ⟨32 + (p.val - 32), by omega⟩ (by simp only [Fin.val_zero]; omega) (by simp only [Fin.val_one]; omega) (by simp only; omega) (by simp only; omega)]
      refine (codes_at1 (wbOf a0 a1) (rotOf a3) X p ⟨p.val - 32, by omega⟩ ⟨32 + (p.val - 32), by omega⟩ l (by omega) h1 rfl rfl).trans ?_
      rw [ker_at1 a0 a1 a2 a3 X o l hX, ker_at1 a0 a1 a2 a3 X o l hX, ← scale0 a0 a1 a2 a3 X o l hX]
    · by_cases h2 : p.val < 96
      · rw [key 1 2 ⟨p.val - 64, by omega⟩ ⟨32 + (p.val - 64), by omega⟩ (by simp only [Fin.val_one]; omega) (by simp only [Fin.val_two]; omega) (by simp only; omega) (by simp only; omega)]
        refine (codes_at2 (wbOf a0 a1) (rotOf a3) X p ⟨p.val - 64, by omega⟩ ⟨32 + (p.val - 64), by omega⟩ l (by omega) h2 rfl rfl).trans ?_
        rw [ker_at2 a0 a1 a2 a3 X o l hX, ker_at2 a0 a1 a2 a3 X o l hX, ← scale1 a0 a1 a2 a3 X o l hX]
      · rw [key 1 3 ⟨p.val - 64 - 32, by omega⟩ ⟨32 + (p.val - 64 - 32), by omega⟩ (by simp only [Fin.val_one]; omega) (by change 3 = p.val / 32; omega) (by simp only; omega) (by simp only; omega)]
        refine (codes_at3 (wbOf a0 a1) (rotOf a3) X p ⟨p.val - 64 - 32, by omega⟩ ⟨32 + (p.val - 64 - 32), by omega⟩ l (by omega) rfl rfl).trans ?_
        rw [ker_at3 a0 a1 a2 a3 X o l hX, ker_at3 a0 a1 a2 a3 X o l hX, ← scale1 a0 a1 a2 a3 X o l hX]

end Cert.Equation
-- ==== Proof.Results.lean ====
/- The kernel's two result arrays are the reference's two terms, at every index. -/
module

public import proofs.«01_k».proof.Proof.Array
public import proofs.«01_k».proof.Proof.Equation

@[expose] public section

set_option maxRecDepth 16384

noncomputable section

namespace Cert.Results

open Cert.KernelIdeal Cert.KernelIdeal.Gen Cert.KernelIdeal.State
open Idealize.ShloMosaic Idealize.ShloMosaic.TcCoe Idealize.SL.Sem

variable (m : (ℓ : Loc nD τ sig) → Buf (Elt Ideal) ℓ) (c : Dev nD)

/-- The reference's rotated weights of the kernel's arguments. -/
abbrev weights : Vec Ideal Cert.ReferenceIdeal.S1x2x128x6144 .f32 :=
  Cert.ReferenceIdeal.Steps.rotated (F := Ideal) (m ((c : Thread nD τ).loc main_arg0)) (m ((c : Thread nD τ).loc main_arg1))
    (m ((c : Thread nD τ).loc main_arg2)) (m ((c : Thread nD τ).loc main_arg3))

/-- The grid point that writes a column. -/
def point (o : Fin 6144) : Fin cfg0.N := ⟨o.val / 512, by rw [points]; omega⟩

/-- The column inside its point's block. -/
def col (o : Fin 6144) : Fin 512 := ⟨o.val % 512, by omega⟩

theorem point_col (o : Fin 6144) : o.val = 512 * (point o).val + (col o).val := by
  change o.val = 512 * (o.val / 512) + o.val % 512
  omega

/-- The packed codes are the reference's. -/
theorem codes : (Value.G4 m c : Vec Ideal S1x128x6144 .i8) = Cert.ReferenceIdeal.Steps.packed (F := Ideal) (weights m c) := by
  funext i
  have hi : i = ix3 0 (i 1) (i 2) := by
    refine (eq_ix3 (n0 := 1) (n1 := 128) (n2 := 6144) i).trans ?_
    exact congrArg (fun z => ix3 z (i 1) (i 2)) (Subsingleton.elim (α := Fin 1) (i 0) 0)
  rw [hi]
  have ho := point_col (i 2)
  exact (Arr.G4_at m c (point (i 2)) (i 1) (col (i 2)) (i 2) ho).trans
    (Cert.Equation.codes_eq _ _ _ _ _ (i 2) (col (i 2)) (fun k => Arr.iblk2 m c (point (i 2)) k (col (i 2)) (i 2) ho) (i 1))

/-- The scales are the reference's. -/
theorem scales : (Value.G5 m c : Vec Ideal S1x2x6144 .bf16) = Cert.ReferenceIdeal.Steps.scales (F := Ideal) (weights m c) := by
  funext i
  have hi : i = ix3 0 (i 1) (i 2) := by
    refine (eq_ix3 (n0 := 1) (n1 := 2) (n2 := 6144) i).trans ?_
    exact congrArg (fun z => ix3 z (i 1) (i 2)) (Subsingleton.elim (α := Fin 1) (i 0) 0)
  rw [hi]
  have ho := point_col (i 2)
  exact (Arr.G5_at m c (point (i 2)) (i 1) (col (i 2)) (i 2) ho).trans
    (Cert.Equation.scales_eq _ _ _ _ _ (i 2) (col (i 2)) (fun k => Arr.iblk2 m c (point (i 2)) k (col (i 2)) (i 2) ho) (i 1))

end Cert.Results
-- ==== Proof.lean ====
/- The certificate: the kernel, its idealization and the plain reference run to the end with their arguments unchanged
   and every counter at zero; the idealization is the kernel's own text; and at the ideal instance the kernel's two
   results, the packed codes and the scales, are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

/-- The kernel ends with its arguments unchanged and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which declares no counter. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Memories that agree on the arguments give the reference one array of rotated weights. -/
theorem weights_eq (m : (ℓ : Loc Cert.KernelIdeal.nD Cert.KernelIdeal.τ Cert.KernelIdeal.sig) → Buf (Elt Ideal) ℓ)
    (c : Dev Cert.KernelIdeal.nD)
    (a0 : Vec Ideal Cert.ReferenceIdeal.S1x256x6144 .i8) (a1 : Vec Ideal Cert.ReferenceIdeal.S1x6144 .f32)
    (a2 : Vec Ideal Cert.ReferenceIdeal.S6144x6144 .bf16) (a3 : Vec Ideal Cert.ReferenceIdeal.S1x64x64 .bf16)
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3)) :
    Cert.ReferenceIdeal.Steps.rotated (F := Ideal) a0 a1 a2 a3 = Cert.Results.weights m c := by
  subst h0 h1 h2 h3
  rfl

/-- At the ideal instance the kernel's two result arrays and the reference's agree. -/
theorem algebraic : Cert.algebraic_KernelIdeal_ReferenceIdeal := by
  intro m g m' g' _ hagree
  refine ⟨fun c => Cert.KernelIdeal.Value.G4 m c, fun c => Cert.KernelIdeal.Value.G5 m c, Cert.KernelIdeal.Value.run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · refine (Cert.ReferenceIdeal.Steps.out_codes m' c).trans (Eq.trans ?_ (Cert.Results.codes m c).symm)
    exact congrArg Cert.ReferenceIdeal.Steps.packed
      (weights_eq m c _ _ _ _ (hagree c).1 (hagree c).2.1 (hagree c).2.2.1 (hagree c).2.2.2)
  · refine Eq.trans ?_ (Cert.Results.scales m c).symm
    exact congrArg Cert.ReferenceIdeal.Steps.scales
      (weights_eq m c _ _ _ _ (hagree c).1 (hagree c).2.1 (hagree c).2.2.1 (hagree c).2.2.2)

theorem claim : Cert.Claim := ⟨Cert.Kernel.Gen.facts, Cert.KernelIdeal.Gen.facts, Cert.ReferenceIdeal.Gen.facts,
  frame_kernel, frame_ideal, frame_reference, trivial, algebraic⟩

end Cert.Proof

end
